-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_only_unk_masked [hPre_only_unk_masked : Cert.Pre_only_unk_masked.Facts] (m : (ℓ : Loc Cert.KernelIdeal.nD Cert.KernelIdeal.τ Cert.KernelIdeal.sig) → Buf (Elt Ideal) ℓ) : Prop :=
  ∀ c : Dev Cert.KernelIdeal.nD,
    (Cert.Pre_only_unk_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_only_unk_masked [hPre_only_unk_masked : Cert.Pre_only_unk_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_only_unk_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_only_unk_masked [hKernelIdeal : Cert.KernelIdeal.Facts] [hPre_only_unk_masked : Cert.Pre_only_unk_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_only_unk_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_only_unk_masked [hReferenceIdeal : Cert.ReferenceIdeal.Facts] [hPre_only_unk_masked : Cert.Pre_only_unk_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_only_unk_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_only_unk_masked [hKernelIdeal : Cert.KernelIdeal.Facts] [hReferenceIdeal : Cert.ReferenceIdeal.Facts] [hPre_only_unk_masked : Cert.Pre_only_unk_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_only_unk_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_only_unk_masked : Cert.Pre_only_unk_masked.Facts),
    quiescent_Kernel (hKernel := hKernel)
    ∧ quiescent_KernelIdeal (hKernelIdeal := hKernelIdeal)
    ∧ quiescent_KernelIdeal_pre_only_unk_masked (hKernelIdeal := hKernelIdeal) (hPre_only_unk_masked := hPre_only_unk_masked)
    ∧ quiescent_ReferenceIdeal (hReferenceIdeal := hReferenceIdeal)
    ∧ quiescent_ReferenceIdeal_pre_only_unk_masked (hReferenceIdeal := hReferenceIdeal) (hPre_only_unk_masked := hPre_only_unk_masked)
    ∧ preserves_Kernel_KernelIdeal
    ∧ algebraic_KernelIdeal_ReferenceIdeal_pre_only_unk_masked (hKernelIdeal := hKernelIdeal) (hReferenceIdeal := hReferenceIdeal) (hPre_only_unk_masked := hPre_only_unk_masked)
-- ==== Pre_only_unk_masked.lean ====
abbrev S128x100000 : Shape := ⟨2, ![128, 100000]⟩
abbrev S100000 : Shape := ⟨1, ![100000]⟩
abbrev S99999 : Shape := ⟨1, ![99999]⟩
abbrev S_ : Shape := ⟨0, ![]⟩

class Facts : Prop where
  slices_S100000_S99999_1 : S100000.Slices ![1] S99999
  bcast_S_S99999 : S_.BroadcastsInDim S99999 (![] : Fin 0 → Fin S99999.rank)
  reducesTo_S99999_S_d0 : S99999.ReducesTo [0] S_
  h_S_ : 0 < S_.numel

variable [Facts]

def fn {F : FTy → Type} [FloatOps F] (main_arg0 : FVec F S128x100000 .f32) (main_arg1 : FVec F S128x100000 .f32) (main_arg2 : FVec F S100000 .f32) : IVec S_ 1 :=
  let main_v0 : FVec F S99999 .f32 := (extractStridedSlice S99999 ![1] · slices_S100000_S99999_1) main_arg2
  let main_cst : FVec F S_ .f32 := constant S_ .f32 0x00000000#32
  let main_v1 : FVec F S99999 .f32 := broadcastInDim S99999 ![] bcast_S_S99999 main_cst
  let main_v2 : IVec S99999 1 := cmpf .oeq main_v0 main_v1
  let main_c : IVec S_ 1 := constantI S_ 1 1#1
  let main_v3 : IVec S_ 1 := (fun x v => Host.reduce IntOp.andi x v reducesTo_S99999_S_d0 h_S_) main_v2 main_c
  main_v3
-- ==== Kernel.lean ====
abbrev S128x100000 : Shape := ⟨2, ![128, 100000]⟩
abbrev S100000 : Shape := ⟨1, ![100000]⟩
abbrev S100000x128 : Shape := ⟨2, ![100000, 128]⟩
abbrev S1 : Shape := ⟨1, ![1]⟩
abbrev S_ : Shape := ⟨0, ![]⟩
abbrev S1x1 : Shape := ⟨2, ![1, 1]⟩
abbrev S1x128 : Shape := ⟨2, ![1, 128]⟩
abbrev S5000x128 : Shape := ⟨2, ![5000, 128]⟩
abbrev S128 : Shape := ⟨1, ![128]⟩

abbrev nBuf : Space → Nat
  | .hbm => 12
  | .vmem => 9
  | .smem => 1
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000, .f32⟩
  | .hbm, ⟨3, _⟩ => ⟨S100000x128, .f32⟩
  | .hbm, ⟨4, _⟩ => ⟨S100000x128, .f32⟩
  | .hbm, ⟨5, _⟩ => ⟨S1, .f32⟩
  | .hbm, ⟨6, _⟩ => ⟨S_, .f32⟩
  | .hbm, ⟨7, _⟩ => ⟨S1x1, .f32⟩
  | .hbm, ⟨8, _⟩ => ⟨S100000x128, .f32⟩
  | .hbm, ⟨9, _⟩ => ⟨S1x128, .i32⟩
  | .hbm, ⟨10, _⟩ => ⟨S128, .i32⟩
  | .hbm, ⟨11, _⟩ => ⟨S128x100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S1x128, .i32⟩
  | .local _ .vmem, ⟨7, _⟩ => ⟨S1x128, .f32⟩
  | .local _ .vmem, ⟨8, _⟩ => ⟨S1x128, .i32⟩
  | .local _ .smem, ⟨0, _⟩ => ⟨S1x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![20], ![false]⟩

def k0_cond3 (i : grid0.Coords) : BitVec 1 :=
  let arg0 : BitVec 32 := BitVec.ofNat 32 (i 0).val
  let c19_i32 : BitVec 32 := 19#32
  let v39 : BitVec 1 := Scalar.cmpi .eq arg0 c19_i32
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x100000 : Shape := ⟨2, ![128, 100000]⟩
abbrev S100000 : Shape := ⟨1, ![100000]⟩
abbrev S_ : Shape := ⟨0, ![]⟩
abbrev S1x100000 : Shape := ⟨2, ![1, 100000]⟩
abbrev S128 : Shape := ⟨1, ![128]⟩

abbrev nBuf : Space → Nat
  | .hbm => 19
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000, .f32⟩
  | .hbm, ⟨3, _⟩ => ⟨S_, .f32⟩
  | .hbm, ⟨4, _⟩ => ⟨S128x100000, .f32⟩
  | .hbm, ⟨5, _⟩ => ⟨S128x100000, .f32⟩
  | .hbm, ⟨6, _⟩ => ⟨S1x100000, .f32⟩
  | .hbm, ⟨7, _⟩ => ⟨S128x100000, .f32⟩
  | .hbm, ⟨8, _⟩ => ⟨S128x100000, .f32⟩
  | .hbm, ⟨9, _⟩ => ⟨S128x100000, .f32⟩
  | .hbm, ⟨10, _⟩ => ⟨S128x100000, .f32⟩
  | .hbm, ⟨11, _⟩ => ⟨S128x100000, .f32⟩
  | .hbm, ⟨12, _⟩ => ⟨S128x100000, .f32⟩
  | .hbm, ⟨13, _⟩ => ⟨S128x100000, .f32⟩
  | .hbm, ⟨14, _⟩ => ⟨S128x100000, .i32⟩
  | .hbm, ⟨15, _⟩ => ⟨S_, .f32⟩
  | .hbm, ⟨16, _⟩ => ⟨S_, .i32⟩
  | .hbm, ⟨17, _⟩ => ⟨S128, .f32⟩
  | .hbm, ⟨18, _⟩ => ⟨S128, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Scan.lean ====
/- The first maximum of a row of scores, told without reference to any program: what it is, that it is unique, that the
   maximum and the least row word of a block name it, that two neighbouring stretches of the row join by a strict
   comparison, and that a fold of (score, word) pairs by "greater score, or equal score and smaller word" ends on it. -/
module

public import Idealize.ShloMosaic.PureOps.Ideal
public import Idealize.ShloMosaic.PureOps.Reduce
public import Idealize.ShloMosaic.Lib.SortNet.Extract

@[expose] public section

noncomputable section

namespace Cert.Proof.Scan

open Idealize.ShloMosaic

/-- `(v, w)` is the first maximum of `f` on the positions `lo ≤ k < hi`: `w` is the 32-bit word of a position in that
    stretch where `f` is `v`, no position there exceeds `v`, and every earlier one is strictly below `v`. -/
def FirstMax (f : ℕ → EReal) (lo hi : ℕ) (v : EReal) (w : BitVec 32) : Prop :=
  ∃ i, lo ≤ i ∧ i < hi ∧ w = BitVec.ofNat 32 i ∧ f i = v ∧ (∀ k, lo ≤ k → k < hi → f k ≤ v) ∧ ∀ k, lo ≤ k → k < i → f k < v

/-- A stretch has one first maximum. -/
theorem FirstMax.unique {f : ℕ → EReal} {lo hi : ℕ} {v v' : EReal} {w w' : BitVec 32} (h : FirstMax f lo hi v w)
    (h' : FirstMax f lo hi v' w') : v = v' ∧ w = w' := by
  obtain ⟨i, li, hi', rfl, fi, hle, hlt⟩ := h
  obtain ⟨j, lj, hj', rfl, fj, hle', hlt'⟩ := h'
  have hv : v = v' := le_antisymm (fi ▸ hle' i li hi') (fj ▸ hle j lj hj')
  subst hv
  refine ⟨rfl, ?_⟩
  rcases lt_trichotomy i j with hij | rfl | hij
  · exact absurd fi (hlt' i li hij).ne
  · rfl
  · exact absurd fj (hlt j lj hij).ne

/-- Two neighbouring stretches: the later one's maximum takes over when it is strictly greater. -/
theorem FirstMax.step_gt {f : ℕ → EReal} {lo mid hi : ℕ} {v v' : EReal} {w w' : BitVec 32} (hm : mid ≤ hi)
    (h : FirstMax f lo mid v w) (h' : FirstMax f mid hi v' w') (hv : v < v') : FirstMax f lo hi v' w' := by
  obtain ⟨i, li, hi', rfl, fi, hle, hlt⟩ := h
  obtain ⟨j, lj, hj', rfl, fj, hle', hlt'⟩ := h'
  refine ⟨j, by omega, hj', rfl, fj, fun k hk hk' => ?_, fun k hk hk' => ?_⟩
  · rcases lt_or_ge k mid with hkm | hkm
    · exact ((hle k hk hkm).trans_lt hv).le
    · exact hle' k hkm hk'
  · rcases lt_or_ge k mid with hkm | hkm
    · exact (hle k hk hkm).trans_lt hv
    · exact hlt' k hkm hk'

/-- Two neighbouring stretches: otherwise the earlier one's maximum stays. -/
theorem FirstMax.step_le {f : ℕ → EReal} {lo mid hi : ℕ} {v v' : EReal} {w w' : BitVec 32} (hm : mid ≤ hi)
    (h : FirstMax f lo mid v w) (h' : FirstMax f mid hi v' w') (hv : ¬ v < v') : FirstMax f lo hi v w := by
  obtain ⟨i, li, hi', rfl, fi, hle, hlt⟩ := h
  obtain ⟨j, lj, hj', rfl, fj, hle', hlt'⟩ := h'
  refine ⟨i, li, by omega, rfl, fi, fun k hk hk' => ?_, hlt⟩
  rcases lt_or_ge k mid with hkm | hkm
  · exact hle k hk hkm
  · exact (hle' k hkm hk').trans (not_lt.1 hv)

/-- Words of positions below `2³¹` read, as signed integers, the position. -/
theorem toInt_ofNat_of_lt {n : ℕ} (h : n < 2147483648) : (BitVec.ofNat 32 n).toInt = n := by
  rw [BitVec.toInt_eq_toNat_of_lt] <;> rw [BitVec.toNat_ofNat, Nat.mod_eq_of_lt (by omega)]
  omega

/-- The signed minimum over a set of words, read as an integer. -/
theorem toInt_fold_minsi {ι : Type} (s : Finset ι) (b : BitVec 32) (g : ι → BitVec 32) :
    (s.fold IntOp.minsi b g).toInt = s.fold min b.toInt fun i => (g i).toInt :=
  (Finset.fold_hom (op := IntOp.minsi) (op' := min) (m := BitVec.toInt) fun x y => SortNet.toInt_minsi x y).symm

/-- One block of `m` rows, row `r` at position `lo + r`: the block's maximum (from `-∞`), and the signed minimum of the words of the rows that
    attain it (from the greatest word), are the first maximum of that stretch. -/
theorem firstMax_of_block {m lo : ℕ} (hm : 0 < m) (hb : lo + m < 2147483648) (f : ℕ → EReal) (x : Fin m → EReal)
    (hx : ∀ r : Fin m, x r = f (lo + r)) (g : Fin m → BitVec 32)
    (hg : ∀ r : Fin m, g r = if x r = Finset.univ.fold max ⊥ x then BitVec.ofNat 32 (lo + r) else 2147483647#32) :
    FirstMax f lo (lo + m) (Finset.univ.fold max ⊥ x) (Finset.univ.fold IntOp.minsi 2147483647#32 g) := by
  have hle : ∀ r, x r ≤ Finset.univ.fold max ⊥ x := fun r => ((Finset.fold_max_le _).1 le_rfl).2 r (Finset.mem_univ r)
  have hex : ∃ r, x r = Finset.univ.fold max ⊥ x := by
    rcases (Finset.le_fold_max (s := Finset.univ) (f := x) (b := ⊥) (Finset.univ.fold max ⊥ x)).1 le_rfl with h | ⟨r, -, h⟩
    · exact ⟨⟨0, hm⟩, le_antisymm (hle _) (h.trans bot_le)⟩
    · exact ⟨r, le_antisymm (hle r) h⟩
  generalize Finset.univ.fold max ⊥ x = v at *
  classical
  obtain ⟨i, hi, hmin⟩ : ∃ i, x i = v ∧ ∀ r, x r = v → i ≤ r := by
    have hne : (Finset.univ.filter fun r => x r = v).Nonempty := hex.elim fun r h => ⟨r, by simpa using h⟩
    exact ⟨_, (Finset.mem_filter.1 (Finset.min'_mem _ hne)).2,
      fun r hr => Finset.min'_le _ _ (Finset.mem_filter.2 ⟨Finset.mem_univ r, hr⟩)⟩
  have hw : Finset.univ.fold IntOp.minsi 2147483647#32 g = BitVec.ofNat 32 (lo + i) := by
    refine BitVec.eq_of_toInt_eq ?_
    have hil := i.isLt
    rw [toInt_fold_minsi]
    refine le_antisymm ((Finset.fold_min_le _).2 (.inr ⟨i, Finset.mem_univ i, ?_⟩)) ((Finset.le_fold_min _).2 ⟨?_, fun r _ => ?_⟩)
    · rw [hg, if_pos hi]
    · rw [toInt_ofNat_of_lt (by omega), show (2147483647#32 : BitVec 32).toInt = 2147483647 by decide]; omega
    · have hrl := r.isLt
      rw [hg, toInt_ofNat_of_lt (by omega)]
      split
      · rename_i hr
        rw [toInt_ofNat_of_lt (by omega)]
        have := hmin r hr
        have : (i : ℕ) ≤ r := this
        omega
      · rw [show (2147483647#32 : BitVec 32).toInt = 2147483647 by decide]; omega
  refine ⟨lo + i, by omega, by have := i.isLt; omega, hw, by rw [← hx, hi], fun k hk hk' => ?_, fun k hk hk' => ?_⟩
  · have h := hle ⟨k - lo, by omega⟩
    rwa [hx, show lo + ((⟨k - lo, by omega⟩ : Fin m) : ℕ) = k by show lo + (k - lo) = k; omega] at h
  · have hkm : k - lo < m := by have := i.isLt; omega
    have e : f k = x ⟨k - lo, hkm⟩ := by rw [hx]; congr 1; show k = lo + (k - lo); omega
    rw [e]
    refine lt_of_le_of_ne (hle _) fun he => ?_
    have h2 : (i : ℕ) ≤ k - lo := hmin _ he
    omega

/-- The pair that comes first: the greater score, or on equal scores the smaller word (signed). -/
def Beats (p q : EReal × BitVec 32) : Prop := q.1 < p.1 ∨ q.1 = p.1 ∧ p.2.toInt ≤ q.2.toInt

/-- Every pair beats itself. -/
theorem Beats.refl (p : EReal × BitVec 32) : Beats p p := .inr ⟨rfl, le_rfl⟩

/-- A pair that beats one that beats a third beats the third. -/
theorem Beats.trans {p q r : EReal × BitVec 32} (h : Beats p q) (h' : Beats q r) : Beats p r := by
  unfold Beats at *
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- A left fold whose body returns one of its two pairs, one beating both, ends on one of the pairs folded, beating all. -/
theorem foldl_beats (op : EReal × BitVec 32 → EReal × BitVec 32 → EReal × BitVec 32)
    (hop : ∀ p q, (op p q = p ∨ op p q = q) ∧ Beats (op p q) p ∧ Beats (op p q) q) (l : List (EReal × BitVec 32))
    (b : EReal × BitVec 32) :
    (l.foldl op b = b ∨ l.foldl op b ∈ l) ∧ Beats (l.foldl op b) b ∧ ∀ p ∈ l, Beats (l.foldl op b) p := by
  induction l generalizing b with
  | nil => exact ⟨.inl rfl, .refl b, by simp⟩
  | cons a l ih =>
    obtain ⟨h1, h2, h3⟩ := ih (op b a)
    obtain ⟨k1, k2, k3⟩ := hop b a
    rw [List.foldl_cons]
    refine ⟨?_, h2.trans k2, fun p hp => ?_⟩
    · rcases h1 with h1 | h1
      · rcases k1 with k1 | k1
        · exact .inl (h1.trans k1)
        · exact .inr (by rw [h1, k1]; exact List.mem_cons_self)
      · exact .inr (List.mem_cons_of_mem _ h1)
    · rcases List.mem_cons.1 hp with rfl | hp
      · exact h2.trans k3
      · exact h3 p hp

/-- Such a fold from `(-∞, 0)` over the (score, word) pairs of the positions `k < n`, in any order, ends on their first maximum. -/
theorem firstMax_of_foldl (op : EReal × BitVec 32 → EReal × BitVec 32 → EReal × BitVec 32)
    (hop : ∀ p q, (op p q = p ∨ op p q = q) ∧ Beats (op p q) p ∧ Beats (op p q) q) {n : ℕ} (hn : 0 < n) (hb : n < 2147483648)
    (f : ℕ → EReal) (l : List (EReal × BitVec 32)) (hl : ∀ p, p ∈ l ↔ ∃ k < n, p = (f k, BitVec.ofNat 32 k)) :
    FirstMax f 0 n (l.foldl op (⊥, 0#32)).1 (l.foldl op (⊥, 0#32)).2 := by
  obtain ⟨h1, -, h3⟩ := foldl_beats op hop l (⊥, 0#32)
  generalize l.foldl op (⊥, 0#32) = r at *
  have hr : ∃ i < n, r = (f i, BitVec.ofNat 32 i) := by
    rcases h1 with rfl | h1
    · refine ⟨0, hn, ?_⟩
      have := h3 (f 0, BitVec.ofNat 32 0) ((hl _).2 ⟨0, hn, rfl⟩)
      rcases this with h | ⟨h, -⟩
      · exact absurd h not_lt_bot
      · exact Prod.ext h.symm rfl
    · exact (hl r).1 h1
  obtain ⟨i, hi, rfl⟩ := hr
  have hk : ∀ k < n, f k < f i ∨ f k = f i ∧ i ≤ k := fun k hk => by
    rcases h3 _ ((hl _).2 ⟨k, hk, rfl⟩) with h | ⟨h, h'⟩
    · exact .inl h
    · refine .inr ⟨h, ?_⟩
      change (BitVec.ofNat 32 i).toInt ≤ (BitVec.ofNat 32 k).toInt at h'
      rw [toInt_ofNat_of_lt (by omega), toInt_ofNat_of_lt (by omega)] at h'
      exact_mod_cast h'
  refine ⟨i, Nat.zero_le i, hi, rfl, rfl, fun k _ hkn => ?_, fun k _ hki => ?_⟩
  · rcases hk k hkn with h | h
    · exact h.le
    · exact h.1.le
  · rcases hk k (hki.trans hi) with h | h
    · exact h
    · omega

end Cert.Proof.Scan

end
-- ==== Proof.Spec.lean ====
/- The masked logits and the scores as functions of the three arguments over the extended reals. -/
module

public import proofs.«01_k».proof.Proof.Scan
public import Idealize.ShloMosaic.Lib.Pointwise

@[expose] public section

noncomputable section

namespace Cert.Proof.Spec

open Idealize.ShloMosaic

variable (x u : FVec Ideal ⟨2, ![128, 100000]⟩ .f32) (p : FVec Ideal ⟨1, ![100000]⟩ .f32)

/-- The masked logit of row `b` at entry `v`: the logit over the temperature's word, plus the mask's entry 0 at `v = 0`. -/
def maskedAt (b : Fin 128) (v : Fin 100000) : EReal :=
  Ideal.div (x (ix2 b v)) (Ideal.ofBits .f32 0x3F4CCCCD#32) + if v.val = 0 then p (ix1 0) else 0

/-- The score of row `b` at entry `k`: the masked logit plus the Gumbel term of the noise (zero outside the row). -/
def scoreAt (b : Fin 128) (k : ℕ) : EReal :=
  if h : k < 100000 then maskedAt x p b ⟨k, h⟩ + (0 - Ideal.log (0 - Ideal.log (u (ix2 b ⟨k, h⟩)))) else 0

/-- Inside the row the score is the masked logit plus the Gumbel term. -/
theorem scoreAt_of_lt (b : Fin 128) {k : ℕ} (h : k < 100000) :
    scoreAt x u p b k = maskedAt x p b ⟨k, h⟩ + (0 - Ideal.log (0 - Ideal.log (u (ix2 b ⟨k, h⟩)))) := dif_pos h

end Cert.Proof.Spec

end
-- ==== Proof.Block.lean ====
/- One block of the scan over the extended reals: the scores at an index, and the block's maximum and its least row. -/
module

public import proofs.«01_k».proof.Proof.Scan
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.Proof.Block

open Cert.KernelIdeal Cert.KernelIdeal.Gen Cert.Proof.Scan

variable (i : grid0.Coords) (x u : Vec Ideal S5000x128 .f32) (s : Ideal .f32)

/-- Row `r` of block `i` carries the word of row `5000 * i + r` of the whole array. -/
theorem row_word (r : Fin 5000) (b : Fin 128) : k0_pay4 i (ix2 r b) = BitVec.ofNat 32 (5000 * (i 0).val + r) := by
  unfold k0_pay4
  pointwise
  change BitVec.ofNat 32 r + BitVec.ofNat 32 (i 0).val * BitVec.ofNat 32 5000 = _
  rw [← BitVec.ofNat_mul, ← BitVec.ofNat_add]
  congr 1
  omega

/-- The masked block: the logit over the temperature's word, plus the mask entry in row 0 of the whole array and zero below. -/
theorem masked_apply (r : Fin 5000) (b : Fin 128) : k0_pay5 i x s (ix2 r b)
    = Ideal.div (x (ix2 r b)) (Ideal.ofBits .f32 0x3F4CCCCD#32) + if 5000 * (i 0).val + r = 0 then s else 0 := by
  have hi : (i 0).val < 20 := (i 0).isLt
  have hr := r.isLt
  unfold k0_pay5
  pointwise
  rw [row_word]
  congr 1
  by_cases h : 5000 * (i 0).val + (r : ℕ) = 0
  · rw [if_pos h, h]; rfl
  · have hne : BitVec.ofNat 32 (5000 * (i 0).val + (r : ℕ)) ≠ 0#32 := fun he => h (by
      have := congrArg BitVec.toNat he
      rwa [BitVec.toNat_ofNat, Nat.mod_eq_of_lt (by omega)] at this)
    rw [if_neg h]
    have hb : (BitVec.ofNat 32 (5000 * (i 0).val + (r : ℕ)) == 0#32) = false := beq_eq_false_iff_ne.2 hne
    simp only [IntOp.cmpi, Scalar.select, hb]
    rfl

/-- The score: the masked block plus `0 - log (0 - log u)`. -/
theorem score_apply (r : Fin 5000) (b : Fin 128) : k0_pay6 i x s u (ix2 r b)
    = k0_pay5 i x s (ix2 r b) + (0 - Ideal.log (0 - Ideal.log (u (ix2 r b)))) := by
  unfold k0_pay6
  pointwise

/-- The block's column maximum and the least of its rows are the first maximum of the rows `5000 * i ≤ k < 5000 * i + 5000`
    of any row of scores `f` that the block's scores agree with. -/
theorem firstMax (b : Fin 128) (f : ℕ → EReal) (hf : ∀ r : Fin 5000, k0_pay6 i x s u (ix2 r b) = f (5000 * (i 0).val + r)) :
    FirstMax f (5000 * (i 0).val) (5000 * (i 0).val + 5000) (k0_pay7 i x s u (ix2 0 b)) (k0_pay8 i x s u (ix2 0 b)) := by
  have hi : (i 0).val < 20 := (i 0).isLt
  have hbot : Ideal.ofBits .f32 4286578688#32 = ⊥ := by simp [Ideal.ofBits, Ideal.ieee]
  have h7 : k0_pay7 i x s u (ix2 0 b) = Finset.univ.fold max ⊥ fun r : Fin 5000 => k0_pay6 i x s u (ix2 r b) := by
    unfold k0_pay7
    pointwise
    rw [hbot]
  have h8 : k0_pay8 i x s u (ix2 0 b) = Finset.univ.fold IntOp.minsi 2147483647#32 fun r : Fin 5000 =>
      if k0_pay6 i x s u (ix2 r b) = k0_pay7 i x s u (ix2 0 b) then k0_pay4 i (ix2 r b) else 2147483647#32 := by
    unfold k0_pay8
    pointwise
  rw [h8, h7]
  exact firstMax_of_block (by decide) (by omega) f _ hf _ fun r => by rw [row_word]

end Cert.Proof.Block

end
-- ==== Proof.Cases.lean ====
/- What the body leaves at each grid point, per case of its conditions, in terms of the kernel's own expressions. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.Cases

open Cert.KernelIdeal Cert.KernelIdeal.Gen

variable {F : FTy → Type} [FloatOps F]
variable (m : (ℓ : Loc nD τ sig) → Buf (Elt F) ℓ) (c : Dev nD) (t : Fin cfg0.N)

/-- The mask entry of index 0 as point `t` has it. -/
def entry : Elt F .f32 := (iblk m c 0 t : Vec F S1x1 .f32) (ix2 0 0)

/-- Loading the one cell of that block yields the entry. -/
theorem ld_entry (j : S1x1.Idx) : View.ld (iblk m c 0 t : Vec F S1x1 .f32) (Rect.unit (s := S1x1) ![0, 0] ![1, 1] inb_S1x1_S1x1_0_0) j = entry m c t := by
  unfold entry
  pointwise

/-- The masked block of point `t`. -/
def maskedBlk : FVec F S5000x128 .f32 := k0_pay5 (grid0.coords t) (iblk m c 1 t) (entry m c t)

/-- The column maxima of point `t`'s scores. -/
def blkVal : FVec F S1x128 .f32 := k0_pay7 (grid0.coords t) (iblk m c 1 t) (entry m c t) (iblk m c 2 t)

/-- The least rows of point `t`'s block that attain the column maxima. -/
def blkIdx : IVec S1x128 32 := k0_pay8 (grid0.coords t) (iblk m c 1 t) (entry m c t) (iblk m c 2 t)

/-- The three cases cover the grid: the first point, the last one, and those between. -/
theorem cases3 : (t.val % 20 = 0 ∧ ¬1 ≤ t.val ∧ ¬t.val % 20 = 19) ∨ (¬t.val % 20 = 0 ∧ 1 ≤ t.val ∧ ¬t.val % 20 = 19)
    ∨ (¬t.val % 20 = 0 ∧ 1 ≤ t.val ∧ t.val % 20 = 19) := by
  have := t.isLt
  have hN : cfg0.N = 20 := N_0
  omega

/-- Every point leaves its masked block in the first result's staging buffer. -/
theorem masked_eq : (outsAt0 m c t.val t.isLt).1 = maskedBlk m c t := by
  rcases cases3 t with ⟨h0, h1, h2⟩ | ⟨h0, h1, h2⟩ | ⟨h0, h1, h2⟩
  · rw [outsAt0_A m c t h0 h1 h2]; frame_out; unfold maskedBlk; rw [← ld_entry]
  · rw [outsAt0_B m c t h0 h1 h2]; frame_out; unfold maskedBlk; rw [← ld_entry]
  · rw [outsAt0_C m c t h0 h1 h2]; frame_out; unfold maskedBlk; rw [← ld_entry]

/-- The first point leaves its column maxima in the running value. -/
theorem val_first (ht : t.val = 0) : (outsAt0 m c t.val t.isLt).2.2.1 = blkVal m c t := by
  rw [outsAt0_A m c t (by omega) (by omega) (by omega)]; frame_out
  unfold k0_pay9 blkVal
  simp only [shapeCast_self]; rw [← ld_entry]

/-- The first point leaves the rows of its column maxima in the running index. -/
theorem idx_first (ht : t.val = 0) : (outsAt0 m c t.val t.isLt).2.2.2 = blkIdx m c t := by
  rw [outsAt0_A m c t (by omega) (by omega) (by omega)]; frame_out
  unfold k0_pay10 blkIdx
  simp only [shapeCast_self]; rw [← ld_entry]

/-- A later point takes its column maxima where they exceed the running value, and keeps the running value elsewhere. -/
theorem val_next (ht : 1 ≤ t.val) : (outsAt0 m c t.val t.isLt).2.2.1
    = select (cmpf .ogt (blkVal m c t) (outsAt0 m c (t.val - 1) (by omega)).2.2.1) (blkVal m c t) (outsAt0 m c (t.val - 1) (by omega)).2.2.1 := by
  rcases cases3 t with ⟨h0, h1, h2⟩ | ⟨h0, h1, h2⟩ | ⟨h0, h1, h2⟩
  · exact absurd ht h1
  · rw [outsAt0_B m c t h0 h1 h2]; frame_out
    unfold k0_pay2 k0_pay1 blkVal
    simp only [read_unread_whole, shapeCast_self]; rw [← ld_entry]
  · rw [outsAt0_C m c t h0 h1 h2]; frame_out
    unfold k0_pay2 k0_pay1 blkVal
    simp only [read_unread_whole, shapeCast_self]; rw [← ld_entry]

/-- A later point takes the rows of its column maxima where those exceed the running value, and keeps the running index elsewhere. -/
theorem idx_next (ht : 1 ≤ t.val) : (outsAt0 m c t.val t.isLt).2.2.2
    = select (cmpf .ogt (blkVal m c t) (outsAt0 m c (t.val - 1) (by omega)).2.2.1) (blkIdx m c t) (outsAt0 m c (t.val - 1) (by omega)).2.2.2 := by
  rcases cases3 t with ⟨h0, h1, h2⟩ | ⟨h0, h1, h2⟩ | ⟨h0, h1, h2⟩
  · exact absurd ht h1
  · rw [outsAt0_B m c t h0 h1 h2]; frame_out
    unfold k0_pay3 k0_pay1 blkVal blkIdx
    simp only [read_unread_whole, shapeCast_self]; rw [← ld_entry]
  · rw [outsAt0_C m c t h0 h1 h2]; frame_out
    unfold k0_pay3 k0_pay1 blkVal blkIdx
    simp only [read_unread_whole, shapeCast_self]; rw [← ld_entry]

/-- The last point leaves the running index in the second result's staging buffer. -/
theorem ids_last (ht : t.val = 19) : (outsAt0 m c t.val t.isLt).2.1 = (outsAt0 m c t.val t.isLt).2.2.2 := by
  rw [outsAt0_C m c t (by omega) (by omega) (by omega)]; frame_out

end Cert.Proof.Cases

end
-- ==== Proof.Kernel.lean ====
/- The kernel's run over the extended reals: its two results as functions of the arguments. -/
module

public import proofs.«01_k».proof.Proof.Spec
public import proofs.«01_k».proof.Proof.Block
public import proofs.«01_k».proof.Proof.Cases
public import Idealize.ShloMosaic.Lib.Claim

@[expose] public section

set_option maxRecDepth 16384

noncomputable section

open Idealize.ShloMosaic Idealize.ShloMosaic.TcCoe Idealize.SL.Sem

namespace Cert.Proof.Kernel

open Cert.KernelIdeal Cert.KernelIdeal.Gen Cert.Proof.Scan Cert.Proof.Spec Cert.Proof.Cases

variable (m : (ℓ : Loc nD τ sig) → Buf (Elt Ideal) ℓ) (c : Dev nD) (t : Fin cfg0.N)

/-- The logits as device `c` holds them at launch. -/
abbrev X : FVec Ideal S128x100000 .f32 := m ((c.tc : Thread nD τ).loc main_arg0)
/-- The uniform noise as device `c` holds it at launch. -/
abbrev U : FVec Ideal S128x100000 .f32 := m ((c.tc : Thread nD τ).loc main_arg1)
/-- The prediction mask as device `c` holds it at launch. -/
abbrev P : FVec Ideal S100000 .f32 := m ((c.tc : Thread nD τ).loc main_arg2)

/-- The block placements of the windows, decided once for all points. -/
theorem idx : ∀ t : Fin cfg0.N, (win0_0.index t = ![0, 0] ∧ win0_1.index t = ![t.val, 0] ∧ win0_2.index t = ![t.val, 0])
    ∧ (win0_3.index t = ![t.val, 0] ∧ win0_4.index t = ![0, 0]) ∧ ((grid0.coords t) 0).val = t.val := by
  decide +kernel

/-- The first staged array is the logits transposed. -/
theorem V_v0 : V m c main_v0 = transpose S100000x128 [1, 0] (X m c) transposes_S128x100000_S100000x128_1_0 := by
  show StableHlo.after ([hostOps0].flatten) (fun b => m (c, b)) _ = _
  simp only [List.flatten_cons, List.flatten_nil, List.append_nil, hostOps0]
  after_results

/-- The second staged array is the noise transposed. -/
theorem V_v1 : V m c main_v1 = transpose S100000x128 [1, 0] (U m c) transposes_S128x100000_S100000x128_1_0 := by
  show StableHlo.after ([hostOps0].flatten) (fun b => m (c, b)) _ = _
  simp only [List.flatten_cons, List.flatten_nil, List.append_nil, hostOps0]
  after_results

/-- The scalar operand is entry 0 of the mask, reshaped. -/
theorem V_v4 : V m c main_v4
    = shapeCast S1x1 (shapeCast S_ (extractStridedSlice S1 ![0] (P m c) slices_S100000_S1_0) shapeCasts_S1_S_) shapeCasts_S_S1x1 := by
  show StableHlo.after ([hostOps0].flatten) (fun b => m (c, b)) _ = _
  simp only [List.flatten_cons, List.flatten_nil, List.append_nil, hostOps0]
  after_results
  rfl

/-- The logits block of point `t` at row `r` of column `b` is the logit of row `b` at vocabulary position `5000 * t + r`. -/
theorem logits_blk (r : Fin 5000) (b : Fin 128) (h : 5000 * t.val + r < 100000) :
    (iblk m c 1 t : Vec Ideal S5000x128 .f32) (ix2 r b) = X m c (ix2 b ⟨5000 * t.val + r, h⟩) := by
  unfold iblk
  change View.read (Elt Ideal) ((cfg0.win 1).blk t).view (V m c main_v0) (ix2 r b) = _
  rw [V_v0]
  blk_simp [idx t]
  pointwise
  blk_ext [idx t]

/-- The noise block of point `t` at row `r` of column `b` is the noise of row `b` at vocabulary position `5000 * t + r`. -/
theorem noise_blk (r : Fin 5000) (b : Fin 128) (h : 5000 * t.val + r < 100000) :
    (iblk m c 2 t : Vec Ideal S5000x128 .f32) (ix2 r b) = U m c (ix2 b ⟨5000 * t.val + r, h⟩) := by
  unfold iblk
  change View.read (Elt Ideal) ((cfg0.win 2).blk t).view (V m c main_v1) (ix2 r b) = _
  rw [V_v1]
  blk_simp [idx t]
  pointwise
  blk_ext [idx t]

/-- The mask entry every point reads is entry 0 of the mask. -/
theorem entry_eq : entry m c t = P m c (ix1 0) := by
  unfold entry iblk
  change View.read (Elt Ideal) ((cfg0.win 0).blk t).view (V m c main_v4) (ix2 0 0) = _
  rw [V_v4]
  blk_simp [idx t]
  pointwise

/-- The masked block of point `t` holds rows `5000 * t + r` of the masked logits. -/
theorem maskedBlk_apply (r : Fin 5000) (b : Fin 128) (h : 5000 * t.val + r < 100000) :
    maskedBlk m c t (ix2 r b) = maskedAt (X m c) (P m c) b ⟨5000 * t.val + r, h⟩ := by
  unfold maskedBlk maskedAt
  rw [Block.masked_apply, entry_eq, (idx t).2.2, logits_blk m c t r b h]

/-- Point `t`'s column maximum and its least row are the first maximum of the rows `5000 * t ≤ k < 5000 * t + 5000` of the scores. -/
theorem blk_firstMax (b : Fin 128) : FirstMax (scoreAt (X m c) (U m c) (P m c) b) (5000 * t.val) (5000 * t.val + 5000)
    (blkVal m c t (ix2 0 b)) (blkIdx m c t (ix2 0 b)) := by
  have hN : cfg0.N = 20 := N_0
  have ht := t.isLt
  have h := Block.firstMax (grid0.coords t) (iblk m c 1 t) (iblk m c 2 t) (entry m c t) b (scoreAt (X m c) (U m c) (P m c) b) fun r => by
    have hr := r.isLt
    have hlt : 5000 * t.val + r < 100000 := by omega
    rw [(idx t).2.2, scoreAt_of_lt _ _ _ _ hlt, Block.score_apply, noise_blk m c t r b hlt]
    congr 1
    exact maskedBlk_apply m c t r b hlt
  rw [(idx t).2.2] at h
  exact h

/-- After point `n` the running value and index are the first maximum of the first `5000 * (n + 1)` scores. -/
theorem running (b : Fin 128) : ∀ (n : ℕ) (h : n < cfg0.N), FirstMax (scoreAt (X m c) (U m c) (P m c) b) 0 (5000 * (n + 1))
    ((outsAt0 m c n h).2.2.1 (ix2 0 b)) ((outsAt0 m c n h).2.2.2 (ix2 0 b))
  | 0, h => by
    have h1 := val_first m c ⟨0, h⟩ rfl
    have h2 := idx_first m c ⟨0, h⟩ rfl
    dsimp only at h1 h2
    rw [h1, h2]
    exact blk_firstMax m c ⟨0, h⟩ b
  | n + 1, h => by
    have ih := running b n (by omega)
    have hb := blk_firstMax m c ⟨n + 1, h⟩ b
    have h1 := val_next m c ⟨n + 1, h⟩ (by simp)
    have h2 := idx_next m c ⟨n + 1, h⟩ (by simp)
    dsimp only at h1 h2 hb
    simp only [Nat.add_sub_cancel] at h1 h2
    rw [h1, h2]
    pointwise
    by_cases hlt : (outsAt0 m c n (by omega)).2.2.1 (ix2 0 b) < blkVal m c ⟨n + 1, h⟩ (ix2 0 b)
    · rw [if_pos hlt, if_pos hlt]
      exact ih.step_gt (by omega) hb hlt
    · rw [if_neg hlt, if_neg hlt]
      exact ih.step_le (by omega) hb hlt

/-- The masked block of point `t` at any of its indices. -/
theorem maskedBlk_at (y : S5000x128.Idx) (k : S100000x128.Idx) (h0 : (k 0).val = 5000 * t.val + (y 0).val) (h1 : (k 1).val = (y 1).val) :
    maskedBlk m c t y = maskedAt (X m c) (P m c) (k 1) (k 0) := by
  obtain ⟨r, b, rfl⟩ : ∃ (r : Fin 5000) (b : Fin 128), y = ix2 r b := ⟨y 0, y 1, by funext a; fin_cases a <;> rfl⟩
  have h0' : (k 0).val = 5000 * t.val + r := h0
  have hk : (k 0).val < 100000 := (k 0).isLt
  rw [maskedBlk_apply m c t r b (by omega)]
  congr 1 <;> exact Fin.ext (by first | exact h1.symm | exact h0.symm)

/-- The first result's array, transposed, ends holding the masked logits. -/
theorem masked_out : (dats m 0 c).arrAt 3 (cfgs 0).N = (fun y => maskedAt (X m c) (P m c) (y 1) (y 0) : FVec Ideal S100000x128 .f32) := by
  refine (dats m 0 c).arrAt_eq_of_covers 3 _ (by decide +kernel) fun t hf y => ?_
  blk_simp
  rw [after0_3, masked_eq]
  refine maskedBlk_at m c t y _ ?_ ?_
  · blk_simp [idx t]
    exact congrArg (· + _) (Nat.mul_comm _ _)
  · blk_simp [idx t]

/-- The last grid point. -/
def tLast : Fin cfg0.N := ⟨19, by rw [show cfg0.N = 20 from N_0]; decide⟩

/-- The second result's array ends holding the running index after the last point. -/
theorem ids_out : (dats m 0 c).arrAt 4 (cfgs 0).N = (outsAt0 m c tLast.val tLast.isLt).2.2.2 := by
  refine (dats m 0 c).arrAt_eq_of_after_last 4 tLast (by decide +kernel) _ fun j => ?_
  blk_simp
  rw [after0_4, ids_last m c tLast rfl]

end Cert.Proof.Kernel

end
-- ==== Proof.Tail.lean ====
/- What @main returns after the region: the running index as a vector, the masked logits transposed back. -/
module

public import proofs.«01_k».proof.Proof.Kernel

@[expose] public section

set_option maxRecDepth 16384

noncomputable section

open Idealize.ShloMosaic Idealize.ShloMosaic.TcCoe Idealize.SL.Sem

namespace Cert.Proof.Kernel

open Cert.KernelIdeal Cert.KernelIdeal.Gen Cert.Proof.Scan Cert.Proof.Spec Cert.Proof.Cases

variable (m : (ℓ : Loc nD τ sig) → Buf (Elt Ideal) ℓ) (c : Dev nD)

/-- The second result @main returns is the first result array transposed: the masked logits. -/
theorem tail_v7 : Pipeline.afterTail₀ cfgs (dats m) 0 (V0 m) [hostOps1] c main_v7
    = (fun j => maskedAt (X m c) (P m c) (j 0) (j 1) : FVec Ideal S128x100000 .f32) := by
  unfold Pipeline.afterTail₀
  simp only [List.flatten_cons, List.flatten_nil, List.append_nil, hostOps1]
  after_results
  have h := (Pipeline.withArrays_arr (cfgs 0).spec (by decide) c (V0 m c) (fun w => (dats m 0 c).arrAt w (cfgs 0).N) 3).trans (masked_out m c)
  refine (congrArg (fun a => transpose S128x100000 [1, 0] a transposes_S100000x128_S128x100000_1_0) h).trans ?_
  funext j
  pointwise

/-- The first result @main returns is the second result array as a vector: the running index after the last point. -/
theorem tail_v6 : Pipeline.afterTail₀ cfgs (dats m) 0 (V0 m) [hostOps1] c main_v6
    = (fun j => (outsAt0 m c tLast.val tLast.isLt).2.2.2 (ix2 0 (j 0)) : IVec S128 32) := by
  unfold Pipeline.afterTail₀
  simp only [List.flatten_cons, List.flatten_nil, List.append_nil, hostOps1]
  after_results
  have h := (Pipeline.withArrays_arr (cfgs 0).spec (by decide) c (V0 m c) (fun w => (dats m 0 c).arrAt w (cfgs 0).N) 4).trans (ids_out m c)
  refine (congrArg (fun a => shapeCast S128 (a : IVec S1x128 32) shapeCasts_S1x128_S128) h).trans ?_
  funext j
  pointwise

end Cert.Proof.Kernel

end
-- ==== Proof.Ref.lean ====
/- The reference's two results as functions of the arguments, over the extended reals. -/
module

public import proofs.«01_k».proof.Proof.Spec
public import proofs.«01_k».proof.Proof.Gen.ReferenceIdeal
public import proofs.«01_k».proof.Proof.Gen.Pre_only_unk_masked
public import Idealize.ShloMosaic.Lib.Claim

@[expose] public section

set_option maxRecDepth 16384

noncomputable section

open Idealize.ShloMosaic Idealize.ShloMosaic.TcCoe Idealize.SL.Sem

namespace Cert.Proof.Ref

open Cert.ReferenceIdeal Cert.Proof.Scan Cert.Proof.Spec

variable (x u : FVec Ideal S128x100000 .f32) (p : FVec Ideal S100000 .f32)

/-- Under the precondition every entry of the mask but the first is zero. -/
theorem mask_zero (h : Cert.Pre_only_unk_masked.fn (F := Ideal) x u p = fun _ => 1#1) (v : Fin 100000) (hv : v.val ≠ 0) :
    p (ix1 v) = 0 := by
  unfold Cert.Pre_only_unk_masked.fn at h
  have h0 := congrFun h (Shape.Idx.first (by decide))
  pointwise at h0
  have hand : ∀ y z : BitVec 1, IntOp.andi y z = 1#1 ↔ y = 1#1 ∧ z = 1#1 := by decide
  have hv' : v.val - 1 < 99999 := by have := v.isLt; omega
  have h1 := ((Finset.fold_op_rel_iff_and (op := IntOp.andi) (r := fun _ y => y = 1#1) (c := 1#1) (hand _ _)).1 h0).2
    ⟨v.val - 1, hv'⟩ (Finset.mem_univ _)
  have h2 : p (ix1 ⟨1 + (v.val - 1), by have := v.isLt; omega⟩) = 0 := by
    by_contra hne
    exact absurd (h1.symm.trans (congrArg BitVec.ofBool (decide_eq_false hne))) (by decide)
  have hv1 : (⟨1 + (v.val - 1), by have := v.isLt; omega⟩ : Fin 100000) = v := Fin.ext (by show 1 + (v.val - 1) = v.val; omega)
  rwa [hv1] at h2

/-- The reference's argmax body returns one of its two pairs, one that beats both. -/
theorem reducer_beats (a b : EReal × BitVec 32) : (reducer_argmax_f32_i32 (F := Ideal) a b = a ∨ reducer_argmax_f32_i32 (F := Ideal) a b = b)
    ∧ Beats (reducer_argmax_f32_i32 (F := Ideal) a b) a ∧ Beats (reducer_argmax_f32_i32 (F := Ideal) a b) b := by
  obtain ⟨a1, a2⟩ := a
  obtain ⟨b1, b2⟩ := b
  unfold reducer_argmax_f32_i32
  dsimp only
  pointwise
  rcases lt_trichotomy b1 a1 with h | rfl | h
  · have e1 : decide (b1 < a1) = true := decide_eq_true h
    have e2 : decide (a1 = b1) = false := decide_eq_false h.ne'
    simp only [e1, e2, ne_eq, not_true_eq_false, decide_false]
    have e3 : ∀ c : BitVec 1, IntOp.ori (IntOp.ori (BitVec.ofBool true) (BitVec.ofBool false)) (IntOp.andi (BitVec.ofBool false) c) = 1#1 := by decide
    rw [e3]
    exact ⟨.inl rfl, .refl _, .inl h⟩
  · have e1 : decide (b1 < b1) = false := decide_eq_false (lt_irrefl _)
    simp only [e1, ne_eq, not_true_eq_false, decide_false, decide_true]
    have e3 : ∀ c : BitVec 1, IntOp.ori (IntOp.ori (BitVec.ofBool false) (BitVec.ofBool false)) (IntOp.andi (BitVec.ofBool true) c) = c := by decide
    rw [e3]
    cases hs : a2.slt b2
    · have hc : IntOp.cmpi .slt a2 b2 = 0#1 := congrArg BitVec.ofBool hs
      rw [hc]
      have hle : b2.toInt ≤ a2.toInt := not_lt.1 fun h => by simp [BitVec.slt, h] at hs
      exact ⟨.inr rfl, .inr ⟨rfl, hle⟩, .refl _⟩
    · have hc : IntOp.cmpi .slt a2 b2 = 1#1 := congrArg BitVec.ofBool hs
      rw [hc]
      have hle : a2.toInt ≤ b2.toInt := le_of_lt (by simpa [BitVec.slt] using hs)
      exact ⟨.inl rfl, .refl _, .inr ⟨rfl, hle⟩⟩
  · have e1 : decide (b1 < a1) = false := decide_eq_false h.not_gt
    have e2 : decide (a1 = b1) = false := decide_eq_false h.ne
    simp only [e1, e2, ne_eq, not_true_eq_false, decide_false]
    have e3 : ∀ c : BitVec 1, IntOp.ori (IntOp.ori (BitVec.ofBool false) (BitVec.ofBool false)) (IntOp.andi (BitVec.ofBool false) c) = 0#1 := by decide
    rw [e3]
    exact ⟨.inr rfl, .inl h, .refl _⟩

/-- The reference's masked logits, as its operations compose them. -/
def refMasked : FVec Ideal S128x100000 .f32 :=
  addf (Host.divf x (broadcastInDim S128x100000 ![] Facts₀.bcast_S_S128x100000 (constant S_ .f32 0x3F4CCCCD#32)))
    (broadcastInDim S128x100000 ![0, 1] Facts₀.bcast_S1x100000_S128x100000_0_1 (broadcastInDim S1x100000 ![1] Facts₀.bcast_S100000_S1x100000_1 p))

/-- The reference's scores. -/
def refScore : FVec Ideal S128x100000 .f32 := addf (refMasked x p) (Host.negf (Host.log (Host.negf (Host.log u))))

/-- The second result of a two-operand reduction, over any shape. -/
def argIdx {s t w : Shape} {axes : List (Fin s.rank)} (op : Ideal .f32 × BitVec 32 → Ideal .f32 × BitVec 32 → Ideal .f32 × BitVec 32)
    (x : FVec Ideal s .f32) (y : IVec s 32) (ix : FVec Ideal w .f32) (iy : IVec w 32) (h : s.ReducesTo axes t) (hu : 0 < w.numel) : IVec t 32 :=
  fun j => (Host.argReduce op x y ix iy h hu j).2

/-- The second result at an index is the second component of the reduction there. -/
theorem argIdx_apply {s t w : Shape} {axes : List (Fin s.rank)} (op : Ideal .f32 × BitVec 32 → Ideal .f32 × BitVec 32 → Ideal .f32 × BitVec 32)
    (x : FVec Ideal s .f32) (y : IVec s 32) (ix : FVec Ideal w .f32) (iy : IVec w 32) (h : s.ReducesTo axes t) (hu : 0 < w.numel) (j : t.Idx) :
    argIdx op x y ix iy h hu j = (Host.argReduce op x y ix iy h hu j).2 := rfl

/-- The second result as a function of the index is `argIdx` of equal operands. -/
theorem argIdx_of_eq {s t w : Shape} {axes : List (Fin s.rank)} (op : Ideal .f32 × BitVec 32 → Ideal .f32 × BitVec 32 → Ideal .f32 × BitVec 32)
    {x x' : FVec Ideal s .f32} {y y' : IVec s 32} {ix ix' : FVec Ideal w .f32} {iy iy' : IVec w 32} (h : s.ReducesTo axes t) (hu : 0 < w.numel)
    (hx : x = x') (hy : y = y') (hix : ix = ix') (hiy : iy = iy') :
    (fun j => (Host.argReduce op x y ix iy h hu j).2 : IVec t 32) = argIdx op x' y' ix' iy' h hu := by
  subst hx hy hix hiy; rfl

/-- The reference's indices: its two-operand reduction's second result. -/
def refIds : IVec S128 32 :=
  argIdx reducer_argmax_f32_i32 (refScore x u p) (iotaInDim S128x100000 32 1) (constant S_ .f32 0xFF800000#32) (constantI S_ 32 0#32)
    Facts₀.reducesTo_S128x100000_S128_d1 Facts₀.h_S_

/-- With a mask zero beyond entry 0 the reference's masked logits are the specified ones. -/
theorem refMasked_apply (hp : ∀ v : Fin 100000, v.val ≠ 0 → p (ix1 v) = 0) (b : Fin 128) (v : Fin 100000) :
    refMasked x p (ix2 b v) = maskedAt x p b v := by
  unfold refMasked maskedAt
  pointwise
  congr 1
  by_cases hv : v.val = 0
  · rw [if_pos hv, show v = 0 from Fin.ext hv]
  · rw [if_neg hv, hp v hv]

/-- With a mask zero beyond entry 0 the reference's scores are the specified ones. -/
theorem refScore_apply (hp : ∀ v : Fin 100000, v.val ≠ 0 → p (ix1 v) = 0) (b : Fin 128) (v : Fin 100000) :
    refScore x u p (ix2 b v) = scoreAt x u p b v := by
  unfold refScore
  rw [scoreAt_of_lt _ _ _ _ v.isLt]
  pointwise
  rw [refMasked_apply x p hp, zero_sub, zero_sub]

/-- A two-operand argmax reduction from `(-∞, 0)`, at a result index: its index is that of the first maximum of the scores `f` when the pairs
    that reduce to that index are those of the positions `k < n`. -/
theorem argReduce_firstMax {s t w : Shape} {axes : List (Fin s.rank)} (op : Ideal .f32 × BitVec 32 → Ideal .f32 × BitVec 32 → Ideal .f32 × BitVec 32)
    (hop : ∀ p q, (op p q = p ∨ op p q = q) ∧ Beats (op p q) p ∧ Beats (op p q) q)
    (x : FVec Ideal s .f32) (y : IVec s 32) (ix : FVec Ideal w .f32) (iy : IVec w 32) (h : s.ReducesTo axes t) (hu : 0 < w.numel) (j : t.Idx)
    (hix : ix (Shape.Idx.first hu) = (⊥ : EReal)) (hiy : iy (Shape.Idx.first hu) = 0#32)
    {n : ℕ} (hn : 0 < n) (hb : n < 2147483648) (f : ℕ → EReal)
    (hin : ∀ i, h.drop i = j → ∃ k < n, (x i : EReal) = f k ∧ y i = BitVec.ofNat 32 k)
    (hout : ∀ k < n, ∃ i, h.drop i = j ∧ (x i : EReal) = f k ∧ y i = BitVec.ofNat 32 k) :
    ∃ v, FirstMax f 0 n v (argIdx op x y ix iy h hu j) := by
  rw [argIdx_apply, Ideal.argReduce_eq_reduce2, Host.reduce2_eq_foldl_fiber, hix, hiy]
  refine ⟨_, firstMax_of_foldl op hop hn hb f _ fun p => ?_⟩
  unfold Host.argReduceFiber
  constructor
  · intro hp
    obtain ⟨q, hq, rfl⟩ := List.mem_map.1 hp
    obtain ⟨k, hk, e1, e2⟩ := hin _ (of_decide_eq_true (List.mem_filter.1 hq).2)
    exact ⟨k, hk, Prod.ext e1 e2⟩
  · rintro ⟨k, hk, rfl⟩
    obtain ⟨i, hi, e1, e2⟩ := hout k hk
    refine List.mem_map.2 ⟨s.rowMajor i, List.mem_filter.2 ⟨List.mem_finRange _, decide_eq_true ?_⟩, ?_⟩
    · rw [Equiv.symm_apply_apply]; exact hi
    · rw [Equiv.symm_apply_apply]; exact Prod.ext e1 e2

/-- The reference's index of row `b` is the word of the first maximum of that row's scores. -/
theorem refIds_firstMax (hp : ∀ v : Fin 100000, v.val ≠ 0 → p (ix1 v) = 0) (b : Fin 128) :
    ∃ v, FirstMax (scoreAt x u p b) 0 100000 v (refIds x u p (ix1 b)) := by
  have hbot : Ideal.ofBits .f32 0xFF800000#32 = ⊥ := by simp [Ideal.ofBits, Ideal.ieee]
  have hdrop : ∀ (i : S128x100000.Idx), Facts₀.reducesTo_S128x100000_S128_d1.drop i = ix1 b ↔ i 0 = b := fun i => by
    simp [funext_iff, Fin.ext_iff, Fin.forall_fin_one, Facts₀.reducesTo_S128x100000_S128_d1.drop_apply_val_of_eq i 0 0]
    exact Fin.ext_iff.symm
  have hin : ∀ i, Facts₀.reducesTo_S128x100000_S128_d1.drop i = ix1 b → ∃ k < 100000,
      (refScore x u p i : EReal) = scoreAt x u p b k ∧ iotaInDim S128x100000 32 1 i = BitVec.ofNat 32 k := by
    intro i hi
    obtain ⟨r, v, rfl⟩ : ∃ (r : Fin 128) (v : Fin 100000), i = ix2 r v := ⟨i 0, i 1, by funext a; fin_cases a <;> rfl⟩
    obtain rfl : r = b := (hdrop _).1 hi
    exact ⟨v.val, v.isLt, refScore_apply x u p hp r v, by pointwise⟩
  have hout : ∀ k < 100000, ∃ i, Facts₀.reducesTo_S128x100000_S128_d1.drop i = ix1 b
      ∧ (refScore x u p i : EReal) = scoreAt x u p b k ∧ iotaInDim S128x100000 32 1 i = BitVec.ofNat 32 k :=
    fun k hk => ⟨ix2 b ⟨k, hk⟩, (hdrop _).2 rfl, refScore_apply x u p hp b ⟨k, hk⟩, by pointwise⟩
  exact argReduce_firstMax (reducer_argmax_f32_i32 (F := Ideal)) reducer_beats (refScore x u p) (iotaInDim S128x100000 32 1)
    (constant S_ .f32 0xFF800000#32) (constantI S_ 32 0#32) Facts₀.reducesTo_S128x100000_S128_d1 Facts₀.h_S_ (ix1 b) hbot rfl
    (by norm_num) (by norm_num) (scoreAt x u p b) hin hout

end Cert.Proof.Ref

end
-- ==== Proof.Result.lean ====
/- The reference's two results are the kernel's. -/
module

public import proofs.«01_k».proof.Proof.Tail
public import proofs.«01_k».proof.Proof.Ref

@[expose] public section

set_option maxRecDepth 16384

noncomputable section

open Idealize.ShloMosaic Idealize.ShloMosaic.TcCoe Idealize.SL.Sem

namespace Cert.Proof.Result

open Cert.KernelIdeal Cert.KernelIdeal.Gen Cert.Proof.Scan Cert.Proof.Spec Cert.Proof.Kernel Cert.Proof.Ref

variable (m : (ℓ : Loc nD τ sig) → Buf (Elt Ideal) ℓ) (c : Dev nD)

/-- The reference's masked logits are the array the kernel's @main returns second. -/
theorem masked_eq (hp : ∀ v : Fin 100000, v.val ≠ 0 → P m c (ix1 v) = 0) :
    refMasked (X m c) (P m c) = Pipeline.afterTail₀ cfgs (dats m) 0 (V0 m) [hostOps1] c main_v7 := by
  rw [tail_v7]
  funext j
  obtain ⟨b, v, rfl⟩ : ∃ (b : Fin 128) (v : Fin 100000), j = ix2 b v := ⟨j 0, j 1, by funext a; fin_cases a <;> rfl⟩
  exact refMasked_apply _ _ hp b v

/-- The reference's indices are the array the kernel's @main returns first. -/
theorem ids_eq (hp : ∀ v : Fin 100000, v.val ≠ 0 → P m c (ix1 v) = 0) :
    refIds (X m c) (U m c) (P m c) = Pipeline.afterTail₀ cfgs (dats m) 0 (V0 m) [hostOps1] c main_v6 := by
  rw [tail_v6]
  funext j
  obtain ⟨b, rfl⟩ : ∃ b : Fin 128, j = ix1 b := ⟨j 0, by funext a; fin_cases a; rfl⟩
  obtain ⟨v, hv⟩ := refIds_firstMax (X m c) (U m c) (P m c) hp b
  exact (hv.unique (running m c b tLast.val tLast.isLt)).2

end Cert.Proof.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_only_unk_masked
public import Idealize.ShloMosaic.Adequacy
public import Idealize.ShloMosaic.Init
public import Idealize.ShloMosaic.Lib.Claim
public import Idealize.ShloMosaic.Lib.Quiescent
public import proofs.«01_k».proof.Proof.Result

@[expose] public section

noncomputable section

namespace Cert.Proof

open Idealize.ShloMosaic Idealize.SL.Sem Cert.Kernel

/-- Over the extended reals, under the precondition on the mask, the kernel and the reference end with equal results from equal arguments. -/
theorem algebraic : Cert.algebraic_KernelIdeal_ReferenceIdeal_pre_only_unk_masked := by
  pair_intro
  · run_from Cert.KernelIdeal.Gen.run_main m g & Cert.KernelIdeal.Gen.unchanged m g
  · hlo_run
    all_goals have hp := fun v hv => Ref.mask_zero _ _ _ (hpre c) v hv
    · refine Eq.trans ?_ (Result.ids_eq m c hp)
      exact Ref.argIdx_of_eq _ _ _ rfl (StableHlo.TRef.ofBuf_toBuf _ _) (StableHlo.TRef.ofBuf_toBuf _ _) (StableHlo.TRef.ofBuf_toBuf _ _)
    · exact Result.masked_eq m c hp

/-- The reference leaves its arguments as they were and every semaphore counter at zero. -/
theorem quiescent_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  have h : θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
    hlo_run
  exact (θ_run Cert.ReferenceIdeal.defs _ _).mono (fun r hr => ⟨hr, Idealize.ShloMosaic.sem_eq_zero_of_no_sems (by decide) r.2⟩) h

/-- The whole claim: the facts, the frames, the operations kept by the rewriting, and the value claim. -/
theorem claim : Cert.Claim := ⟨Cert.Kernel.Gen.facts, Cert.KernelIdeal.Gen.facts, Cert.ReferenceIdeal.Gen.facts, Cert.Pre_only_unk_masked.Gen.facts,
  fun m g _ => Cert.Kernel.Gen.frame m g, fun m g _ => Cert.KernelIdeal.Gen.frame m g, fun m g _ => Cert.KernelIdeal.Gen.frame m g,
  fun m g _ => quiescent_ref m g, fun m g _ => quiescent_ref m g, trivial, algebraic⟩

end Cert.Proof

end
